-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S64x1024 : Shape := ⟨2, ![64, 1024]⟩
abbrev S64x512x1024 : Shape := ⟨3, ![64, 512, 1024]⟩
abbrev S64 : Shape := ⟨1, ![64]⟩
abbrev S1024x512 : Shape := ⟨2, ![1024, 512]⟩
abbrev S512 : Shape := ⟨1, ![512]⟩
abbrev S_ : Shape := ⟨0, ![]⟩

class Facts : Prop where
  bcast_S_S64x1024 : S_.BroadcastsInDim S64x1024 (![] : Fin 0 → Fin S64x1024.rank)
  reducesTo_S64x1024_S_d0_1 : S64x1024.ReducesTo [0, 1] S_
  h_S_ : 0 < S_.numel
  bcast_S_S64x512x1024 : S_.BroadcastsInDim S64x512x1024 (![] : Fin 0 → Fin S64x512x1024.rank)
  reducesTo_S64x512x1024_S_d0_1_2 : S64x512x1024.ReducesTo [0, 1, 2] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg5 : FVec F S512 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S64x1024 .f32) (main_arg1 : FVec F S64x512x1024 .f32) (main_arg2 : IVec S64 32) (main_arg3 : FVec F S1024x512 .f32) (main_arg4 : FVec F S1024x512 .f32) (main_arg5 : FVec F S512 .f32) : IVec S_ 1 :=
  let main_v0 : FVec F S64x1024 .f32 := Host.absf main_arg0
  let main_cst : FVec F S_ .f32 := constant S_ .f32 0x7F800000#32
  let main_v1 : FVec F S64x1024 .f32 := broadcastInDim S64x1024 ![] bcast_S_S64x1024 main_cst
  let main_v2 : IVec S64x1024 1 := cmpf .olt main_v0 main_v1
  let main_c : IVec S_ 1 := constantI S_ 1 1#1
  let main_v3 : IVec S_ 1 := (fun x v => Host.reduce IntOp.andi x v reducesTo_S64x1024_S_d0_1 h_S_) main_v2 main_c
  let main_v4 : FVec F S64x512x1024 .f32 := Host.absf main_arg1
  let main_cst_0 : FVec F S_ .f32 := constant S_ .f32 0x7F800000#32
  let main_v5 : FVec F S64x512x1024 .f32 := broadcastInDim S64x512x1024 ![] bcast_S_S64x512x1024 main_cst_0
  let main_v6 : IVec S64x512x1024 1 := cmpf .olt main_v4 main_v5
  let main_c_1 : IVec S_ 1 := constantI S_ 1 1#1
  let main_v7 : IVec S_ 1 := (fun x v => Host.reduce IntOp.andi x v reducesTo_S64x512x1024_S_d0_1_2 h_S_) main_v6 main_c_1
  let main_v8 : IVec S_ 1 := andi main_v3 main_v7
  let main_v9 : FVec F S1024x512 .f32 := Host.absf main_arg3
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S1024x512 .f32 := Host.absf main_arg4
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg5 main_v13 main_v16
-- ==== Kernel.lean ====
abbrev S64x1024 : Shape := ⟨2, ![64, 1024]⟩
abbrev S64x512x1024 : Shape := ⟨3, ![64, 512, 1024]⟩
abbrev S64 : Shape := ⟨1, ![64]⟩
abbrev S1024x512 : Shape := ⟨2, ![1024, 512]⟩
abbrev S512 : Shape := ⟨1, ![512]⟩
abbrev S64x1 : Shape := ⟨2, ![64, 1]⟩
abbrev S1x512 : Shape := ⟨2, ![1, 512]⟩
abbrev S64x512 : Shape := ⟨2, ![64, 512]⟩
abbrev S8x1024 : Shape := ⟨2, ![8, 1024]⟩
abbrev S8x512x1024 : Shape := ⟨3, ![8, 512, 1024]⟩
abbrev S8x1 : Shape := ⟨2, ![8, 1]⟩
abbrev S8x512 : Shape := ⟨2, ![8, 512]⟩
abbrev S8x1x512 : Shape := ⟨3, ![8, 1, 512]⟩
abbrev S8x128x512 : Shape := ⟨3, ![8, 128, 512]⟩
abbrev S8x128x1024 : Shape := ⟨3, ![8, 128, 1024]⟩
abbrev S1024x1024 : Shape := ⟨2, ![1024, 1024]⟩
abbrev S8x128 : Shape := ⟨2, ![8, 128]⟩
abbrev S8 : Shape := ⟨1, ![8]⟩
abbrev S8x4096 : Shape := ⟨2, ![8, 4096]⟩
abbrev S4096x1024 : Shape := ⟨2, ![4096, 1024]⟩

abbrev nBuf : Space → Nat
  | .hbm => 10
  | .vmem => 13
  | .smem => 0
  | _ => 0

abbrev bufTy : (tb : Table) → Fin (tcTables nBuf tb) → BufTy
  | .hbm, ⟨0, _⟩ => ⟨S64x1024, .f32⟩
  | .hbm, ⟨1, _⟩ => ⟨S64x512x1024, .f32⟩
  | .hbm, ⟨2, _⟩ => ⟨S64, .i32⟩
  | .hbm, ⟨3, _⟩ => ⟨S1024x512, .f32⟩
  | .hbm, ⟨4, _⟩ => ⟨S1024x512, .f32⟩
  | .hbm, ⟨5, _⟩ => ⟨S512, .f32⟩
  | .hbm, ⟨6, _⟩ => ⟨S64x1, .i32⟩
  | .hbm, ⟨7, _⟩ => ⟨S1x512, .f32⟩
  | .hbm, ⟨8, _⟩ => ⟨S64x1024, .f32⟩
  | .hbm, ⟨9, _⟩ => ⟨S64x512, .f32⟩
  | .local _ .vmem, ⟨0, _⟩ => ⟨S8x1024, .f32⟩
  | .local _ .vmem, ⟨1, _⟩ => ⟨S8x1024, .f32⟩
  | .local _ .vmem, ⟨2, _⟩ => ⟨S8x512x1024, .f32⟩
  | .local _ .vmem, ⟨3, _⟩ => ⟨S8x512x1024, .f32⟩
  | .local _ .vmem, ⟨4, _⟩ => ⟨S8x1, .i32⟩
  | .local _ .vmem, ⟨5, _⟩ => ⟨S8x1, .i32⟩
  | .local _ .vmem, ⟨6, _⟩ => ⟨S1024x512, .f32⟩
  | .local _ .vmem, ⟨7, _⟩ => ⟨S1024x512, .f32⟩
  | .local _ .vmem, ⟨8, _⟩ => ⟨S1x512, .f32⟩
  | .local _ .vmem, ⟨9, _⟩ => ⟨S8x1024, .f32⟩
  | .local _ .vmem, ⟨10, _⟩ => ⟨S8x1024, .f32⟩
  | .local _ .vmem, ⟨11, _⟩ => ⟨S8x512, .f32⟩
  | .local _ .vmem, ⟨12, _⟩ => ⟨S8x512, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S64x1024 : Shape := ⟨2, ![64, 1024]⟩
abbrev S64x512x1024 : Shape := ⟨3, ![64, 512, 1024]⟩
abbrev S64 : Shape := ⟨1, ![64]⟩
abbrev S1024x512 : Shape := ⟨2, ![1024, 512]⟩
abbrev S512 : Shape := ⟨1, ![512]⟩
abbrev S64x512 : Shape := ⟨2, ![64, 512]⟩
abbrev S64x512x512 : Shape := ⟨3, ![64, 512, 512]⟩
abbrev S64x1x512 : Shape := ⟨3, ![64, 1, 512]⟩
abbrev S_ : Shape := ⟨0, ![]⟩
abbrev S1x512 : Shape := ⟨2, ![1, 512]⟩
abbrev S64x1 : Shape := ⟨2, ![64, 1]⟩

abbrev nBuf : Space → Nat
  | .hbm => 34
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S64x512x1024, .f32⟩
  | .hbm, ⟨2, _⟩ => ⟨S64, .i32⟩
  | .hbm, ⟨3, _⟩ => ⟨S1024x512, .f32⟩
  | .hbm, ⟨4, _⟩ => ⟨S1024x512, .f32⟩
  | .hbm, ⟨5, _⟩ => ⟨S512, .f32⟩
  | .hbm, ⟨6, _⟩ => ⟨S64x512, .f32⟩
  | .hbm, ⟨7, _⟩ => ⟨S64x512x512, .f32⟩
  | .hbm, ⟨8, _⟩ => ⟨S64x1x512, .f32⟩
  | .hbm, ⟨9, _⟩ => ⟨S64x512x512, .f32⟩
  | .hbm, ⟨10, _⟩ => ⟨S64x512x512, .f32⟩
  | .hbm, ⟨11, _⟩ => ⟨S_, .f32⟩
  | .hbm, ⟨12, _⟩ => ⟨S64x512x512, .f32⟩
  | .hbm, ⟨13, _⟩ => ⟨S64x512x512, .f32⟩
  | .hbm, ⟨14, _⟩ => ⟨S64x512, .f32⟩
  | .hbm, ⟨15, _⟩ => ⟨S_, .f32⟩
  | .hbm, ⟨16, _⟩ => ⟨S_, .f32⟩
  | .hbm, ⟨17, _⟩ => ⟨S64x512, .f32⟩
  | .hbm, ⟨18, _⟩ => ⟨S64x512, .f32⟩
  | .hbm, ⟨19, _⟩ => ⟨S64x512, .f32⟩
  | .hbm, ⟨20, _⟩ => ⟨S512, .i32⟩
  | .hbm, ⟨21, _⟩ => ⟨S1x512, .i32⟩
  | .hbm, ⟨22, _⟩ => ⟨S64x1, .i32⟩
  | .hbm, ⟨23, _⟩ => ⟨S64x512, .i32⟩
  | .hbm, ⟨24, _⟩ => ⟨S64x512, .i32⟩
  | .hbm, ⟨25, _⟩ => ⟨S64x512, .i1⟩
  | .hbm, ⟨26, _⟩ => ⟨S64x512, .f32⟩
  | .hbm, ⟨27, _⟩ => ⟨S64x512, .f32⟩
  | .hbm, ⟨28, _⟩ => ⟨S_, .f32⟩
  | .hbm, ⟨29, _⟩ => ⟨S64, .f32⟩
  | .hbm, ⟨30, _⟩ => ⟨S64x1, .f32⟩
  | .hbm, ⟨31, _⟩ => ⟨S64x512, .f32⟩
  | .hbm, ⟨32, _⟩ => ⟨S64x512, .f32⟩
  | .hbm, ⟨33, _⟩ => ⟨S64x1024, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Proof.Softmax.lean ====
/- The mathematics of one row of attention over the extended reals: the score of a position, the weights of a row of
   scores under a mask, and the fact that a row's weights, taken relative to their sum, do not depend on which real
   number was subtracted from the scores before the exponential. -/
module

public import Idealize.ShloMosaic.PureOps.Ideal
public import Idealize.ShloMosaic.Lib.ValueIdxCore

@[expose] public section

noncomputable section

namespace Cert.Attention

open Idealize.ShloMosaic

/-- The score of one position: the query `x` through `A` plus the key `q` through `B`, cut off below at zero, weighed
    by `w` and added up. -/
def score (x q : Fin 1024 → EReal) (A B : Fin 1024 → Fin 512 → EReal) (w : Fin 512 → EReal) : EReal :=
  ∑ a : Fin 512, max ((∑ k : Fin 1024, q k * B k a) + ∑ k : Fin 1024, x k * A k a) 0 * w a

/-- The greatest score of a row. -/
def rowMax (l : Fin 512 → EReal) : EReal := Finset.univ.fold max ⊥ l

/-- Whether position `s` lies within a row of length `n`, as a one-bit word. -/
def inside (n : BitVec 32) (s : Fin 512) : BitVec 1 := IntOp.cmpi .slt (BitVec.ofNat 32 s.val) n

/-- The weight of a position: the exponential of its score less `M` inside the row, zero outside it. -/
def weight (l : Fin 512 → EReal) (M : EReal) (n : BitVec 32) (s : Fin 512) : EReal :=
  Scalar.select (inside n s) (Ideal.exp (l s - M)) 0

/-- The share of a position: its weight over the sum of the row's weights. -/
def share (l : Fin 512 → EReal) (M : EReal) (n : BitVec 32) (s : Fin 512) : EReal :=
  Ideal.div (weight l M n s) (∑ x : Fin 512, weight l M n x)

/-- An extended real that is a real number. -/
def IsReal (x : EReal) : Prop := ∃ r : ℝ, x = r

/-- Zero is a real. -/
theorem IsReal.zero : IsReal 0 := ⟨0, rfl⟩

/-- The sum of two reals is a real. -/
theorem IsReal.add {x y : EReal} : IsReal x → IsReal y → IsReal (x + y)
  | ⟨a, ha⟩, ⟨b, hb⟩ => ⟨a + b, by rw [ha, hb, EReal.coe_add]⟩

/-- The product of two reals is a real. -/
theorem IsReal.mul {x y : EReal} : IsReal x → IsReal y → IsReal (x * y)
  | ⟨a, ha⟩, ⟨b, hb⟩ => ⟨a * b, by rw [ha, hb, EReal.coe_mul]⟩

/-- The greater of two reals is a real. -/
theorem IsReal.max {x y : EReal} (hx : IsReal x) (hy : IsReal y) : IsReal (max x y) := by
  rcases max_choice x y with h | h <;> rw [h] <;> assumption

/-- A finite sum of reals is a real. -/
theorem IsReal.sum {ι : Type} (s : Finset ι) (f : ι → EReal) (h : ∀ i, IsReal (f i)) : IsReal (∑ i ∈ s, f i) := by
  classical
  induction s using Finset.induction_on with
  | empty => exact .zero
  | insert a s ha ih => rw [Finset.sum_insert ha]; exact (h a).add ih

/-- The greatest of finitely many reals, at least one, is a real. -/
theorem IsReal.fold_max {ι : Type} (s : Finset ι) (hs : s.Nonempty) (f : ι → EReal) (h : ∀ i, IsReal (f i)) :
    IsReal (s.fold Max.max ⊥ f) := by
  classical
  induction hs using Finset.Nonempty.cons_induction with
  | singleton a => rw [Finset.fold_singleton, max_bot_right]; exact h a
  | cons a s ha _ ih => rw [Finset.fold_cons]; exact (h a).max ih

/-- A score of real numbers is a real number. -/
theorem score_real {x q : Fin 1024 → EReal} {A B : Fin 1024 → Fin 512 → EReal} {w : Fin 512 → EReal}
    (hx : ∀ k, IsReal (x k)) (hq : ∀ k, IsReal (q k)) (hA : ∀ k a, IsReal (A k a)) (hB : ∀ k a, IsReal (B k a))
    (hw : ∀ a, IsReal (w a)) : IsReal (score x q A B w) :=
  .sum _ _ fun a => .mul (.max (.add (.sum _ _ fun k => (hq k).mul (hB k a)) (.sum _ _ fun k => (hx k).mul (hA k a))) .zero) (hw a)

/-- The sum of finitely many reals, taken among the extended reals. -/
theorem coe_sum {ι : Type} (s : Finset ι) (g : ι → ℝ) : ∑ i ∈ s, (g i : EReal) = ((∑ i ∈ s, g i : ℝ) : EReal) := by
  classical
  induction s using Finset.induction_on with
  | empty => rfl
  | insert a s ha ih => rw [Finset.sum_insert ha, Finset.sum_insert ha, ih, EReal.coe_add]

/-- A quotient of reals does not change when both are multiplied by one positive real, a zero divisor included. -/
theorem div_scale (k : ℝ) (hk : 0 < k) (a b : ℝ) :
    Ideal.div ((k * a : ℝ) : EReal) ((k * b : ℝ) : EReal) = Ideal.div (a : EReal) (b : EReal) := by
  by_cases hb : b = 0
  · subst hb
    unfold Ideal.div
    rw [mul_zero, EReal.coe_zero, if_pos rfl, if_pos rfl]
    refine if_congr ?_ rfl rfl
    rw [EReal.coe_pos, EReal.coe_pos]
    exact ⟨fun h => pos_of_mul_pos_right h hk.le, fun h => mul_pos hk h⟩
  · rw [Ideal.div_coe hb, Ideal.div_coe (mul_ne_zero hk.ne' hb), ← EReal.coe_mul, ← EReal.coe_mul]
    congr 1
    field_simp

/-- The weight of a position of a real row, as a real number. -/
def realWeight (L : Fin 512 → ℝ) (M : ℝ) (n : BitVec 32) (s : Fin 512) : ℝ :=
  Scalar.select (inside n s) (Real.exp (L s - M)) 0

/-- The weight of a position of a real row is that real number. -/
theorem weight_coe (L : Fin 512 → ℝ) (M : ℝ) (n : BitVec 32) (s : Fin 512) :
    weight (fun s => (L s : EReal)) (M : EReal) n s = (realWeight L M n s : EReal) := by
  unfold weight realWeight
  rcases BitVec.eq_zero_or_eq_one (inside n s) with h | h <;> rw [h]
  · rw [ValueIdx.select_zero, ValueIdx.select_zero, EReal.coe_zero]
  · rw [ValueIdx.select_one, ValueIdx.select_one, ← EReal.coe_sub, Ideal.exp_coe]

/-- Subtracting another number from the scores multiplies every weight of the row by one positive factor. -/
theorem realWeight_shift (L : Fin 512 → ℝ) (M M' : ℝ) (n : BitVec 32) (s : Fin 512) :
    realWeight L M n s = Real.exp (M' - M) * realWeight L M' n s := by
  unfold realWeight
  rcases BitVec.eq_zero_or_eq_one (inside n s) with h | h <;> rw [h]
  · rw [ValueIdx.select_zero, ValueIdx.select_zero, mul_zero]
  · rw [ValueIdx.select_one, ValueIdx.select_one, ← Real.exp_add]
    congr 1
    ring

/-- So the shares of a row of real scores are the same whichever real number is subtracted. A row with no position
    inside it has every weight zero on both sides. -/
theorem share_shift {l : Fin 512 → EReal} {M M' : EReal} (hl : ∀ s, IsReal (l s)) (hM : IsReal M) (hM' : IsReal M')
    (n : BitVec 32) (s : Fin 512) : share l M n s = share l M' n s := by
  obtain ⟨a, rfl⟩ := hM
  obtain ⟨b, rfl⟩ := hM'
  choose L hL using hl
  obtain rfl : l = fun s => (L s : EReal) := funext hL
  unfold share
  simp only [weight_coe]
  rw [coe_sum, coe_sum, realWeight_shift L a b, Finset.sum_congr rfl fun x _ => realWeight_shift L a b n x, ← Finset.mul_sum]
  exact div_scale _ (Real.exp_pos _) _ _

/-- A weight written with the mask as a factor, one inside the row and zero outside it. -/
theorem weight_eq_mul (l : Fin 512 → EReal) (M : EReal) (n : BitVec 32) (s : Fin 512) :
    Ideal.exp (l s - M) * (((inside n s).toNat : ℝ) : EReal) = weight l M n s := by
  unfold weight
  rcases BitVec.eq_zero_or_eq_one (inside n s) with h | h <;> rw [h]
  · rw [ValueIdx.select_zero]; simp
  · rw [ValueIdx.select_one]; simp

/-- The bits a maximum starts from are those of minus infinity. -/
theorem neg_inf : Ideal.ofBits .f32 0xFF800000#32 = ⊥ := by
  simp [Ideal.ofBits, Ideal.ieee]

end Cert.Attention

end
-- ==== Proof.Finite.lean ====
/- What the precondition says of the arguments: every element of the five float arguments is a real number. -/
module

public import proofs.«01_k».proof.Proof.Softmax
public import proofs.«01_k».proof.Pre_finite_inputs
public import Idealize.ShloMosaic.Lib.Pointwise
public import Idealize.ShloMosaic.Lib.ReduceAll

@[expose] public section

set_option maxRecDepth 16384

noncomputable section

namespace Cert.Attention.Finite

open Idealize.ShloMosaic Idealize.SL.Sem
open Cert.Pre_finite_inputs

/-- The shape relations the predicate states. -/
instance facts : Cert.Pre_finite_inputs.Facts where
  bcast_S_S64x1024 := by decide
  reducesTo_S64x1024_S_d0_1 := by decide
  h_S_ := by decide
  bcast_S_S64x512x1024 := by decide
  reducesTo_S64x512x1024_S_d0_1_2 := by decide
  bcast_S_S1024x512 := by decide
  reducesTo_S1024x512_S_d0_1 := by decide
  bcast_S_S512 := by decide
  reducesTo_S512_S_d0 := by decide

/-- An array with no axes has one index. -/
instance : Subsingleton S_.Idx := ⟨fun _ _ => funext fun a => a.elim0⟩

/-- The bits the predicate compares with are those of plus infinity. -/
theorem pos_inf : Ideal.ofBits .f32 0x7F800000#32 = ⊤ := by
  simp [Ideal.ofBits, Ideal.ieee]

/-- An extended real whose absolute value is below plus infinity is a real number. -/
theorem real_of_abs_lt {x : EReal} (h : Ideal.cmp .olt (max x (-x)) ⊤ = 1#1) : IsReal x := by
  have h' : max x (-x) < ⊤ := by
    by_contra hn
    unfold Ideal.cmp at h
    dsimp only at h
    rw [decide_eq_false hn] at h
    exact absurd h (by decide)
  induction x using EReal.rec with
  | bot => rw [EReal.neg_bot, max_eq_right bot_le] at h'; exact absurd h' (lt_irrefl _)
  | coe r => exact ⟨r, rfl⟩
  | top => rw [max_eq_left le_top] at h'; exact absurd h' (lt_irrefl _)

/-- One argument's test: if every element's absolute value compares below plus infinity, every element is real. -/
theorem real_of_all {s : Shape} {axes : List (Fin s.rank)} (x : Vec Ideal s .f32) (d : Fin 0 → Fin s.rank)
    (hb : S_.BroadcastsInDim s d) (hr : s.ReducesTo axes S_) (hu : 0 < S_.numel) (j : S_.Idx)
    (h : Host.reduce IntOp.andi (cmpf (F := Ideal) .olt (Host.absf x) (broadcastInDim s d hb (constant S_ .f32 0x7F800000#32)))
      (constantI S_ 1 1#1) hr hu j = 1#1) (i : s.Idx) : IsReal (x i) := by
  have e := Host.reduce_andi_all _ _ hr hu j h i
  refine real_of_abs_lt ?_
  rw [← pos_inf]
  exact e

/-- The predicate holds only if every element of the five float arguments is real. -/
theorem all_real {x : Vec Ideal S64x1024 .f32} {q : Vec Ideal S64x512x1024 .f32} {n : Vec Ideal S64 .i32}
    {A B : Vec Ideal S1024x512 .f32} {w : Vec Ideal S512 .f32} (h : fn (F := Ideal) x q n A B w = fun _ => 1#1) :
    (∀ i, IsReal (x i)) ∧ (∀ i, IsReal (q i)) ∧ (∀ i, IsReal (A i)) ∧ (∀ i, IsReal (B i)) ∧ ∀ i, IsReal (w i) := by
  have h := congrFun h ix0
  obtain ⟨h, hw⟩ := IntOp.andi_eq_one.1 h
  obtain ⟨h, hB⟩ := IntOp.andi_eq_one.1 h
  obtain ⟨h, hA⟩ := IntOp.andi_eq_one.1 h
  obtain ⟨hx, hq⟩ := IntOp.andi_eq_one.1 h
  exact ⟨real_of_all x _ _ _ _ _ hx, real_of_all q _ _ _ _ _ hq, real_of_all A _ _ _ _ _ hA, real_of_all B _ _ _ _ _ hB,
    real_of_all w _ _ _ _ _ hw⟩

end Cert.Attention.Finite

end
-- ==== Proof.Block.lean ====
/- What one run of the kernel's body computes at an index, from the blocks it holds: the scores of its eight rows, the
   shares of each row, and the values added up by those shares. -/
module

public import proofs.«01_k».proof.Proof.Softmax
public import proofs.«01_k».proof.Proof.Gen.KernelIdeal.Frame
public import Idealize.ShloMosaic.Lib.Pointwise

@[expose] public section

set_option maxRecDepth 16384

noncomputable section

namespace Cert.Attention

open Idealize.ShloMosaic Idealize.SL.Sem
open Cert.KernelIdeal Cert.KernelIdeal.Gen

/-- A chunk of 128 positions: the scores of its positions, row by row. -/
theorem chunk_apply (x0 : Vec Ideal S8x1024 .f32) (x3 : Vec Ideal S1024x512 .f32) (x5 : Vec Ideal S1x512 .f32)
    (y : Vec Ideal S8x128x1024 .f32) (x4 : Vec Ideal S1024x512 .f32) (r : Fin 8) (s : Fin 128) :
    k0_pay4 (F := Ideal) x0 x3 x5 y x4 (ix2 r s)
      = score (fun k => x0 (ix2 r k)) (fun k => y (ix3 r s k)) (fun k a => x3 (ix2 k a)) (fun k a => x4 (ix2 k a))
          (fun a => x5 (ix2 0 a)) := by
  pointwise [k0_pay4, k0_pay2, k0_pay3, score]

/-- The scores of row `r` of a block. -/
def blockScore (x0 : Vec Ideal S8x1024 .f32) (x1 : Vec Ideal S8x512x1024 .f32) (x3 x4 : Vec Ideal S1024x512 .f32)
    (x5 : Vec Ideal S1x512 .f32) (r : Fin 8) (s : Fin 512) : EReal :=
  score (fun k => x0 (ix2 r k)) (fun k => x1 (ix3 r s k)) (fun k a => x3 (ix2 k a)) (fun k a => x4 (ix2 k a))
    (fun a => x5 (ix2 0 a))

/-- The block's four chunks side by side hold the scores of all 512 positions. -/
theorem joined_apply (x0 : Vec Ideal S8x1024 .f32) (x1 : Vec Ideal S8x512x1024 .f32) (x3 x4 : Vec Ideal S1024x512 .f32)
    (x5 : Vec Ideal S1x512 .f32) (r : Fin 8) (s : Fin 512) :
    concatenate S8x512 1
        [⟨S8x128, k0_pay4 (F := Ideal) x0 x3 x5 (View.ld x1 r0_3) x4⟩, ⟨S8x128, k0_pay4 (F := Ideal) x0 x3 x5 (View.ld x1 r0_4) x4⟩,
         ⟨S8x128, k0_pay4 (F := Ideal) x0 x3 x5 (View.ld x1 r0_5) x4⟩, ⟨S8x128, k0_pay4 (F := Ideal) x0 x3 x5 (View.ld x1 r0_6) x4⟩]
        concatenates_S8x128_S8x128_S8x128_S8x128_S8x512_d1 (ix2 r s)
      = blockScore x0 x1 x3 x4 x5 r s := by
  pointwise [chunk_apply, r0_3, r0_4, r0_5, r0_6]
  have e : ∀ t : Fin 512, t.val = s.val → score (fun k => x0 (ix2 r k)) (fun k => x1 (ix3 r t k)) (fun k a => x3 (ix2 k a))
      (fun k a => x4 (ix2 k a)) (fun a => x5 (ix2 0 a)) = blockScore x0 x1 x3 x4 x5 r s := by
    intro t h
    obtain rfl : t = s := Fin.ext h
    rfl
  split
  · exact e s rfl
  split
  · exact e _ (by dsimp only; omega)
  split
  · exact e _ (by dsimp only; omega)
  · exact e _ (by dsimp only; omega)

/-- The shares a block writes: row `r`'s scores less their greatest, masked by the row's length. -/
theorem shares_apply (x0 : Vec Ideal S8x1024 .f32) (x1 : Vec Ideal S8x512x1024 .f32) (n : Vec Ideal S8x1 .i32)
    (x3 x4 : Vec Ideal S1024x512 .f32) (x5 : Vec Ideal S1x512 .f32) (r : Fin 8) (s : Fin 512) :
    k0_pay7 (F := Ideal) (k0_pay2 x0 x3) (k0_pay3 x5) (k0_pay4 x0 x3 x5 (View.ld x1 r0_3) x4)
        (k0_pay5 x0 x3 x5 (View.ld x1 r0_4) x4) (k0_pay6 (View.ld x1 r0_5)) x4 (View.ld x1 r0_6) x4 n (ix2 r s)
      = share (blockScore x0 x1 x3 x4 x5 r) (rowMax (blockScore x0 x1 x3 x4 x5 r)) (n (ix2 r 0)) s := by
  unfold k0_pay7
  dsimp only
  generalize hV : concatenate S8x512 1 _ _ = V
  have hs : ∀ r s, V (ix2 r s) = blockScore x0 x1 x3 x4 x5 r s := by
    intro r s
    rw [← hV]
    exact joined_apply x0 x1 x3 x4 x5 r s
  clear hV
  pointwise
  simp only [hs, neg_inf]
  rfl

/-- Dividing the number of a column by 512, rounded towards minus infinity, as the kernel writes it. -/
theorem floor_word : ∀ x : Fin 4096,
    (Scalar.select (IntOp.andi
        (IntOp.cmpi .ne
          (IntOp.subi ((IntOp.cmpi .sgt (BitVec.ofNat 32 x.val) 0#32).setWidth 32) ((IntOp.cmpi .slt (BitVec.ofNat 32 x.val) 0#32).setWidth 32))
          (Scalar.subi ((Scalar.extui (Scalar.cmpi .sgt 512#32 0#32) : BitVec 32)) ((Scalar.extui (Scalar.cmpi .slt 512#32 0#32) : BitVec 32))))
        (IntOp.cmpi .ne (IntOp.remsi .vector (BitVec.ofNat 32 x.val) 512#32) 0#32))
      (IntOp.subi (IntOp.divsi .vector (BitVec.ofNat 32 x.val) 512#32) 1#32)
      (IntOp.divsi .vector (BitVec.ofNat 32 x.val) 512#32)) = BitVec.ofNat 32 (x.val / 512) := by
  decide +kernel

/-- Comparing a row's number with a column's number divided by 512 picks the columns of that row. -/
theorem row_word : ∀ r q : Fin 8, IntOp.cmpi .eq (BitVec.ofNat 32 r.val) (BitVec.ofNat 32 q.val) = if r = q then 1#1 else 0#1 := by
  decide +kernel

/-- A sum over 4096 columns of which all but row `r`'s 512 are masked out is the sum over those. -/
theorem masked_sum (g : Fin 8 → Fin 512 → EReal) (r : Fin 8) :
    ∑ x : Fin 4096, Scalar.select (IntOp.cmpi .eq (BitVec.ofNat 32 r.val) (BitVec.ofNat 32 (x.val / 512)))
        (g ⟨x.val / 512, by omega⟩ ⟨x.val % 512, by omega⟩) 0
      = ∑ s : Fin 512, g r s := by
  have hd : ∀ p : Fin 8 × Fin 512, (finProdFinEquiv p).val / 512 = p.1.val := fun p => by
    have := p.2.isLt
    show (p.2.val + 512 * p.1.val) / 512 = p.1.val
    omega
  have hm : ∀ p : Fin 8 × Fin 512, (finProdFinEquiv p).val % 512 = p.2.val := fun p => by
    have := p.2.isLt
    show (p.2.val + 512 * p.1.val) % 512 = p.2.val
    omega
  have h : ∀ p : Fin 8 × Fin 512, (if r = p.1 then g p.1 p.2 else 0)
      = Scalar.select (IntOp.cmpi .eq (BitVec.ofNat 32 r.val) (BitVec.ofNat 32 ((finProdFinEquiv p).val / 512)))
        (g ⟨(finProdFinEquiv p).val / 512, by rw [hd]; exact p.1.isLt⟩ ⟨(finProdFinEquiv p).val % 512, by omega⟩) 0 := by
    rintro ⟨q, s⟩
    have hq : (⟨(finProdFinEquiv (q, s)).val / 512, by rw [hd]; exact q.isLt⟩ : Fin 8) = q := Fin.ext (hd (q, s))
    have hs : (⟨(finProdFinEquiv (q, s)).val % 512, by omega⟩ : Fin 512) = s := Fin.ext (hm (q, s))
    rw [hs, show BitVec.ofNat 32 ((finProdFinEquiv (q, s)).val / 512) = BitVec.ofNat 32 q.val from congrArg (fun z : Fin 8 => BitVec.ofNat 32 z.val) hq,
      row_word, hq]
    by_cases e : r = q
    · rw [if_pos e, if_pos e, ValueIdx.select_one]
    · rw [if_neg e, if_neg e, ValueIdx.select_zero]
  refine (Fintype.sum_equiv (finProdFinEquiv (m := 8) (n := 512)) _ _ h).symm.trans ?_
  rw [Fintype.sum_prod_type]
  simp only [Finset.sum_ite_irrel, Finset.sum_const_zero]
  rw [Finset.sum_ite_eq]
  exact if_pos (Finset.mem_univ r)

/-- The values a block writes: row `r`'s values at column `d`, added up by the row's shares. -/
theorem values_apply (p : FVec Ideal S8x512 .f32) (x1 : Vec Ideal S8x512x1024 .f32) (r : Fin 8) (d : Fin 1024) :
    k0_pay1 (F := Ideal) p (iota .tc S8x4096 32 [0] iota_S8x4096_d0_w32) x1 (ix2 r d)
      = ∑ s : Fin 512, p (ix2 r s) * x1 (ix3 r s d) := by
  unfold k0_pay1
  dsimp only
  generalize hV : concatenate S8x4096 1 _ _ = V
  have hp : ∀ (r : Fin 8) (x : Fin 4096), V (ix2 r x) = p (ix2 r ⟨x.val % 512, by omega⟩) := by
    intro r x
    rw [← hV]
    refine concatenate_replicate_apply (t := S8x4096) (s₁ := S8x512) 1 8 p _ rfl _ _ rfl fun b hb => ?_
    match b with
    | 0 => rfl
    | 1 => exact absurd rfl hb
  clear hV
  pointwise
  simp only [floor_word, hp]
  exact masked_sum (fun q s => p (ix2 r s) * x1 (ix3 q s d)) r

end Cert.Attention

end
-- ==== Proof.Array.lean ====
/- What the kernel's two result arrays hold after the run, at every index, in terms of the arguments. -/
module

public import proofs.«01_k».proof.Proof.Block
public import proofs.«01_k».proof.Proof.Gen.KernelIdeal.Value
public import Idealize.ShloMosaic.Lib.Pipeline.ValueKit
public import Idealize.ShloMosaic.Lib.Claim

@[expose] public section

set_option maxRecDepth 16384

noncomputable section

namespace Cert.Attention

open Idealize.ShloMosaic Idealize.ShloMosaic.TcCoe Idealize.SL.Sem
open Idealize.ShloMosaic.Pipeline (Dat)
open Cert.KernelIdeal Cert.KernelIdeal.Gen

/-- The scores of row `b` of the whole arrays. -/
def rowScore (x : Vec Ideal S64x1024 .f32) (q : Vec Ideal S64x512x1024 .f32) (A B : Vec Ideal S1024x512 .f32)
    (w : Vec Ideal ⟨1, ![512]⟩ .f32) (b : Fin 64) (s : Fin 512) : EReal :=
  score (fun k => x (ix2 b k)) (fun k => q (ix3 b s k)) (fun k a => A (ix2 k a)) (fun k a => B (ix2 k a)) (fun a => w (ix1 a))

/-- The shares of row `b` of the whole arrays, the row's greatest score subtracted. -/
def rowShare (x : Vec Ideal S64x1024 .f32) (q : Vec Ideal S64x512x1024 .f32) (n : Vec Ideal S64 .i32)
    (A B : Vec Ideal S1024x512 .f32) (w : Vec Ideal ⟨1, ![512]⟩ .f32) (b : Fin 64) (s : Fin 512) : EReal :=
  share (rowScore x q A B w b) (rowMax (rowScore x q A B w b)) (n (ix1 b)) s

/-- The array of shares. -/
def SHARES (x : Vec Ideal S64x1024 .f32) (q : Vec Ideal S64x512x1024 .f32) (n : Vec Ideal S64 .i32)
    (A B : Vec Ideal S1024x512 .f32) (w : Vec Ideal ⟨1, ![512]⟩ .f32) : Vec Ideal S64x512 .f32 :=
  fun j => rowShare x q n A B w (j 0) (j 1)

/-- The array of values added up by the shares. -/
def VALUES (x : Vec Ideal S64x1024 .f32) (q : Vec Ideal S64x512x1024 .f32) (n : Vec Ideal S64 .i32)
    (A B : Vec Ideal S1024x512 .f32) (w : Vec Ideal ⟨1, ![512]⟩ .f32) : Vec Ideal S64x1024 .f32 :=
  fun j => ∑ s : Fin 512, rowShare x q n A B w (j 0) s * q (ix3 (j 0) s (j 1))

variable (m : (ℓ : Loc nD τ sig) → Buf (Elt Ideal) ℓ)

/-- Every window's block index at every grid point. -/
theorem idx : ∀ t : Fin cfg0.N, win0_0.index t = ![t.val, 0] ∧ win0_1.index t = ![t.val, 0, 0] ∧ win0_2.index t = ![t.val, 0]
    ∧ win0_3.index t = ![0, 0] ∧ win0_4.index t = ![0, 0] ∧ win0_5.index t = ![0, 0] ∧ win0_6.index t = ![t.val, 0]
    ∧ win0_7.index t = ![t.val, 0] :=
  (by decide +kernel : ∀ t : Fin grid0.N, _)

/-- Row `r` of point `t`'s blocks is row `8 t + r` of the arrays. -/
def row (t : Fin cfg0.N) (r : Fin 8) : Fin 64 :=
  ⟨8 * t.val + r.val, by
    have h : cfg0.N = 8 := by decide +kernel
    have := t.isLt
    have := r.isLt
    omega⟩

/-- The number of that row. -/
theorem row_val (t : Fin cfg0.N) (r : Fin 8) : (row t r).val = 8 * t.val + r.val := rfl

/-- Point `t`'s block of the query rows. -/
theorem block0 (c : Dev nD) (t : Fin cfg0.N) (r : Fin 8) (k : Fin 1024) :
    iblk m c 0 t (ix2 r k) = m ((c : Thread nD τ).loc main_arg0) (ix2 (row t r) k) := by
  blk_point [iblk, V, idx t]
  rw [row_val]; omega

/-- Point `t`'s block of the matrix. -/
theorem block1 (c : Dev nD) (t : Fin cfg0.N) (r : Fin 8) (s : Fin 512) (k : Fin 1024) :
    iblk m c 1 t (ix3 r s k) = m ((c : Thread nD τ).loc main_arg1) (ix3 (row t r) s k) := by
  blk_point [iblk, V, idx t]
  rw [row_val]; omega

/-- Point `t`'s block of the lengths. -/
theorem block2 (c : Dev nD) (t : Fin cfg0.N) (r : Fin 8) :
    iblk m c 2 t (ix2 r 0) = m ((c : Thread nD τ).loc main_arg2) (ix1 (row t r)) := by
  blk_point [iblk, idx t]
  rw [row_val]; omega

/-- Every point's block of the first weights is the whole array. -/
theorem block3 (c : Dev nD) (t : Fin cfg0.N) (k : Fin 1024) (a : Fin 512) :
    iblk m c 3 t (ix2 k a) = m ((c : Thread nD τ).loc main_arg3) (ix2 k a) := by
  blk_point [iblk, V, idx t]

/-- Every point's block of the second weights is the whole array. -/
theorem block4 (c : Dev nD) (t : Fin cfg0.N) (k : Fin 1024) (a : Fin 512) :
    iblk m c 4 t (ix2 k a) = m ((c : Thread nD τ).loc main_arg4) (ix2 k a) := by
  blk_point [iblk, V, idx t]

/-- Every point's block of the last weights is the whole array, laid out as one row. -/
theorem block5 (c : Dev nD) (t : Fin cfg0.N) (a : Fin 512) :
    iblk m c 5 t (ix2 0 a) = m ((c : Thread nD τ).loc main_arg5) (ix1 a) := by
  blk_point [iblk, idx t]

/-- A block's scores are its rows' scores in the whole arrays. -/
theorem blockScore_eq (c : Dev nD) (t : Fin cfg0.N) (r : Fin 8) :
    blockScore (iblk m c 0 t) (iblk m c 1 t) (iblk m c 3 t) (iblk m c 4 t) (iblk m c 5 t) r
      = rowScore (m ((c : Thread nD τ).loc main_arg0)) (m ((c : Thread nD τ).loc main_arg1)) (m ((c : Thread nD τ).loc main_arg3))
          (m ((c : Thread nD τ).loc main_arg4)) (m ((c : Thread nD τ).loc main_arg5)) (row t r) := by
  funext s
  unfold blockScore rowScore
  simp only [block0, block1, block3, block4, block5]

/-- What point `t` writes of the shares: those of its eight rows. -/
theorem shares_block (c : Dev nD) (t : Fin cfg0.N) (r : Fin 8) (s : Fin 512) :
    k0_pay7 (F := Ideal) (k0_pay2 (iblk m c 0 t) (iblk m c 3 t)) (k0_pay3 (iblk m c 5 t))
        (k0_pay4 (iblk m c 0 t) (iblk m c 3 t) (iblk m c 5 t) (View.ld (iblk m c 1 t) r0_3) (iblk m c 4 t))
        (k0_pay5 (iblk m c 0 t) (iblk m c 3 t) (iblk m c 5 t) (View.ld (iblk m c 1 t) r0_4) (iblk m c 4 t))
        (k0_pay6 (View.ld (iblk m c 1 t) r0_5)) (iblk m c 4 t) (View.ld (iblk m c 1 t) r0_6) (iblk m c 4 t) (iblk m c 2 t) (ix2 r s)
      = rowShare (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (row t r) s := by
  refine (shares_apply _ _ _ _ _ _ r s).trans ?_
  unfold rowShare
  rw [blockScore_eq, block2]

/-- The array of shares after the run. -/
theorem final7 (c : Dev nD) : (dats m 0 c).arrAt 7 cfg0.N
    = SHARES (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]
  unfold_out out0_7
  frame_out
  idx_vars y
  have e : ((View.whole main_v2_1).slice (win0_7.rect t)).emb (ix2 y0 y1) = ix2 (row t y0) y1 := by
    blk_ext [idx t]
    rw [row_val]; omega
  rw [e]
  exact shares_block m c t y0 y1

/-- The array of values after the run. -/
theorem final6 (c : Dev nD) : (dats m 0 c).arrAt 6 cfg0.N
    = VALUES (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  unfold_out out0_6
  frame_out
  idx_vars y
  have e : ((View.whole main_v2_0).slice (win0_6.rect t)).emb (ix2 y0 y1) = ix2 (row t y0) y1 := by
    blk_ext [idx t]
    rw [row_val]; omega
  rw [e]
  refine (values_apply _ _ y0 y1).trans ?_
  exact Finset.sum_congr rfl fun s _ => congrArg₂ (· * ·) (shares_block m c t y0 s) (block1 m c t y0 s y1)

end Cert.Attention

end
-- ==== Proof.Reference.lean ====
/- What the reference computes at an index, in terms of the arguments: the scores, the shares of a row with one number
   subtracted from every score of the array, and the values added up by those shares. -/
module

public import proofs.«01_k».proof.Proof.Softmax
public import proofs.«01_k».proof.Proof.Gen.ReferenceIdeal.Read
public import Idealize.ShloMosaic.Lib.Pointwise

@[expose] public section

set_option maxRecDepth 16384

noncomputable section

namespace Cert.Attention.Ref

open Idealize.ShloMosaic Idealize.SL.Sem
open Cert.ReferenceIdeal Cert.ReferenceIdeal.Read

variable (x : Vec Ideal S64x1024 .f32) (q : Vec Ideal S64x512x1024 .f32) (n : Vec Ideal S64 .i32)
  (A B : Vec Ideal S1024x512 .f32) (w : Vec Ideal S512 .f32)

/-- The scores. -/
theorem score_apply (b : Fin 64) (s : Fin 512) :
    val_main_v6 (F := Ideal) x q A B w (ix2 b s)
      = score (fun k => x (ix2 b k)) (fun k => q (ix3 b s k)) (fun k a => A (ix2 k a)) (fun k a => B (ix2 k a)) (fun a => w (ix1 a)) := by
  pointwise [val_main_v6, val_main_v5, val_main_v4, val_main_v3, val_main_v2, val_main_v1, val_main_v0, val_main_call0_v0, val_main_call0_cst]
  unfold score
  exact Finset.sum_congr rfl fun a _ => by rw [add_comm]

/-- The weights. -/
theorem weight_apply (b : Fin 64) (s : Fin 512) :
    val_main_v18 (F := Ideal) x q n A B w (ix2 b s)
      = weight (fun s => val_main_v6 (F := Ideal) x q A B w (ix2 b s)) (val_main_v7 (F := Ideal) x q A B w ix0) (n (ix1 b)) s := by
  pointwise [val_main_v18, val_main_v17, val_main_v16, val_main_v15, val_main_v14, val_main_v13, val_main_v12, val_main_v11, val_main_v10, val_main_v9, val_main_v8]
  exact weight_eq_mul (fun s => val_main_v6 (F := Ideal) x q A B w (ix2 b s)) _ _ s

/-- The shares. -/
theorem share_apply (b : Fin 64) (s : Fin 512) :
    val_main_v22 (F := Ideal) x q n A B w (ix2 b s)
      = share (fun s => val_main_v6 (F := Ideal) x q A B w (ix2 b s)) (val_main_v7 (F := Ideal) x q A B w ix0) (n (ix1 b)) s := by
  pointwise [val_main_v22, val_main_v21, val_main_v20, val_main_v19, val_main_cst_0, weight_apply]
  rfl

/-- The values. -/
theorem value_apply (b : Fin 64) (d : Fin 1024) :
    val_main_v23 (F := Ideal) x q n A B w (ix2 b d)
      = ∑ s : Fin 512, val_main_v22 (F := Ideal) x q n A B w (ix2 b s) * q (ix3 b s d) := by
  pointwise [val_main_v23]
  exact Finset.sum_congr rfl fun s _ => mul_comm _ _

/-- The greatest score of the array is a real number when every score is. -/
theorem top_real (h : ∀ b s, IsReal (val_main_v6 (F := Ideal) x q A B w (ix2 b s))) : IsReal (val_main_v7 (F := Ideal) x q A B w ix0) := by
  pointwise [val_main_v7, val_main_cst]
  rw [neg_inf]
  exact .fold_max _ ⟨(0, 0), Finset.mem_univ _⟩ _ fun k => h k.1 k.2

end Cert.Attention.Ref

end
-- ==== Proof.Equation.lean ====
/- The equation: for real arguments the kernel's two result arrays and the reference's hold the same. -/
module

public import proofs.«01_k».proof.Proof.Array
public import proofs.«01_k».proof.Proof.Reference

@[expose] public section

noncomputable section

namespace Cert.Attention

open Idealize.ShloMosaic Idealize.SL.Sem
open Cert.ReferenceIdeal.Read

variable {x : Vec Ideal ⟨2, ![64, 1024]⟩ .f32} {q : Vec Ideal ⟨3, ![64, 512, 1024]⟩ .f32} (n : Vec Ideal ⟨1, ![64]⟩ .i32)
  {A B : Vec Ideal ⟨2, ![1024, 512]⟩ .f32} {w : Vec Ideal ⟨1, ![512]⟩ .f32}
  (hx : ∀ i, IsReal (x i)) (hq : ∀ i, IsReal (q i)) (hA : ∀ i, IsReal (A i)) (hB : ∀ i, IsReal (B i)) (hw : ∀ i, IsReal (w i))

include hx hq hA hB hw

/-- The scores of real arguments are real. -/
theorem rowScore_real (b : Fin 64) (s : Fin 512) : IsReal (rowScore x q A B w b s) :=
  score_real (fun _ => hx _) (fun _ => hq _) (fun _ _ => hA _) (fun _ _ => hB _) fun _ => hw _

/-- The shares agree at every row and position: the kernel subtracts the row's greatest score, the reference the array's. -/
theorem share_eq (b : Fin 64) (s : Fin 512) : val_main_v22 (F := Ideal) x q n A B w (ix2 b s) = rowShare x q n A B w b s := by
  have hs := rowScore_real hx hq hA hB hw
  have e : ∀ b s, val_main_v6 (F := Ideal) x q A B w (ix2 b s) = rowScore x q A B w b s := fun b s => Ref.score_apply x q A B w b s
  rw [Ref.share_apply, show (fun s => val_main_v6 (F := Ideal) x q A B w (ix2 b s)) = rowScore x q A B w b from funext (e b)]
  exact share_shift (hs b) (Ref.top_real x q A B w fun b s => by rw [e]; exact hs b s)
    (.fold_max _ ⟨0, Finset.mem_univ _⟩ _ (hs b)) _ s

/-- The arrays of shares agree. -/
theorem shares_eq : val_main_v22 (F := Ideal) x q n A B w = SHARES x q n A B w := by
  funext j
  rw [eq_ix2 j]
  exact share_eq n hx hq hA hB hw (j 0) (j 1)

/-- The arrays of values agree. -/
theorem values_eq : val_main_v23 (F := Ideal) x q n A B w = VALUES x q n A B w := by
  funext j
  rw [eq_ix2 j]
  refine (Ref.value_apply x q n A B w (j 0) (j 1)).trans ?_
  exact Finset.sum_congr rfl fun s _ =>
    congrArg (· * q (ix3 (j 0) s (j 1))) (share_eq n hx hq hA hB hw (j 0) s)

end Cert.Attention

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Finite
public import proofs.«01_k».proof.Proof.Equation
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs to its end from any memory, its arguments unchanged and every counter zero. -/
theorem reference : Cert.quiescent_ReferenceIdeal := by
  intro m g _
  exact θ_run_mono (Cert.ReferenceIdeal.Value.run m g) fun r h => ⟨fun c => (h c).2.2, sem_eq_zero_of_no_sems rfl r.2⟩

/-- From memories that agree on the arguments and hold real numbers there, the kernel and the reference end with equal results. -/
theorem algebraic : Cert.algebraic_KernelIdeal_ReferenceIdeal_pre_finite_inputs := by
  pair_intro
  · run_from Cert.KernelIdeal.Value.run_blocks m g
  · run_from Cert.ReferenceIdeal.Value.run m' g'
    all_goals obtain ⟨hx, hq, hA, hB, hw⟩ := Cert.Attention.Finite.all_real (hpre c)
    · exact (Cert.ReferenceIdeal.Read.val_main_v23_eq _ _ _ _ _ _).trans
        ((Cert.Attention.values_eq _ hx hq hA hB hw).trans (Cert.Attention.final6 m c).symm)
    · exact (Cert.ReferenceIdeal.Read.val_main_v22_eq _ _ _ _ _ _).trans
        ((Cert.Attention.shares_eq _ hx hq hA hB hw).trans (Cert.Attention.final7 m c).symm)

/-- Everything claimed. -/
theorem claim : Cert.Claim :=
  ⟨inferInstance, inferInstance, inferInstance, inferInstance, fun m g _ => Cert.Kernel.Gen.frame m g,
    fun m g _ => Cert.KernelIdeal.Gen.frame m g, fun m g _ => Cert.KernelIdeal.Gen.frame m g, reference,
    fun m g _ => reference m g trivial, trivial, algebraic⟩

end Cert.Proof

end
